-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S50000x256 : Shape := ⟨2, ![50000, 256]⟩
abbrev S50000 : Shape := ⟨1, ![50000]⟩
abbrev S256x256 : Shape := ⟨2, ![256, 256]⟩
abbrev S256 : Shape := ⟨1, ![256]⟩
abbrev S13824x256 : Shape := ⟨2, ![13824, 256]⟩
abbrev S1x256 : Shape := ⟨2, ![1, 256]⟩

abbrev nBuf : Space → Nat
  | .hbm => 5
  | .vmem => 6
  | .smem => 0
  | _ => 0

abbrev bufTy : (tb : Table) → Fin (tcTables nBuf tb) → BufTy
  | .hbm, ⟨0, _⟩ => ⟨S50000x256, .f32⟩
  | .hbm, ⟨1, _⟩ => ⟨S50000, .i32⟩
  | .hbm, ⟨2, _⟩ => ⟨S256x256, .f32⟩
  | .hbm, ⟨3, _⟩ => ⟨S256, .f32⟩
  | .hbm, ⟨4, _⟩ => ⟨S50000x256, .f32⟩
  | .local _ .vmem, ⟨0, _⟩ => ⟨S13824x256, .f32⟩
  | .local _ .vmem, ⟨1, _⟩ => ⟨S13824x256, .f32⟩
  | .local _ .vmem, ⟨2, _⟩ => ⟨S256x256, .f32⟩
  | .local _ .vmem, ⟨3, _⟩ => ⟨S256, .f32⟩
  | .local _ .vmem, ⟨4, _⟩ => ⟨S13824x256, .f32⟩
  | .local _ .vmem, ⟨5, _⟩ => ⟨S13824x256, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S13824x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S13824x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S50000x256 : Shape := ⟨2, ![50000, 256]⟩
abbrev S50000 : Shape := ⟨1, ![50000]⟩
abbrev S256x256 : Shape := ⟨2, ![256, 256]⟩
abbrev S256 : Shape := ⟨1, ![256]⟩
abbrev S1x256 : Shape := ⟨2, ![1, 256]⟩

abbrev nBuf : Space → Nat
  | .hbm => 8
  | .vmem => 0
  | .smem => 0
  | _ => 0

abbrev bufTy : (tb : Table) → Fin (tcTables nBuf tb) → BufTy
  | .hbm, ⟨0, _⟩ => ⟨S50000x256, .f32⟩
  | .hbm, ⟨1, _⟩ => ⟨S50000, .i32⟩
  | .hbm, ⟨2, _⟩ => ⟨S256x256, .f32⟩
  | .hbm, ⟨3, _⟩ => ⟨S256, .f32⟩
  | .hbm, ⟨4, _⟩ => ⟨S50000x256, .f32⟩
  | .hbm, ⟨5, _⟩ => ⟨S1x256, .f32⟩
  | .hbm, ⟨6, _⟩ => ⟨S50000x256, .f32⟩
  | .hbm, ⟨7, _⟩ => ⟨S50000x256, .f32⟩
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]
-- ==== Proof.Affine.lean ====
/- The mathematics, over the extended reals: the matrix `x` times the matrix `W` plus the vector `b` on every row, for any
   number of rows; the kernel function's stored block as such a product; the reference's result as such a product. -/
module

public import proofs.«01_k».proof.Proof.Gen.KernelIdeal
public import proofs.«01_k».proof.Proof.Gen.KernelIdeal.Skeleton
public import proofs.«01_k».proof.Proof.Gen.ReferenceIdeal
public import Idealize.ShloMosaic.Lib.MatmulPlain
public import Idealize.ShloMosaic.Lib.StackMember
public import Idealize.ShloMosaic.Lib.KernelVsHost
public import Idealize.ShloMosaic.Lib.ValueIdx

@[expose] public section

noncomputable section

namespace Cert.Affine

open Idealize.ShloMosaic Idealize.ShloMosaic.ValueIdx
open scoped BigOperators

/-- `x · W + b`, the bias added to every row: element (r, c) is Σₖ x(r, k) · W(k, c), plus b(c). -/
def affine {M : ℕ} (x : FVec Ideal ⟨2, ![M, 256]⟩ .f32) (W : FVec Ideal ⟨2, ![256, 256]⟩ .f32) (b : FVec Ideal ⟨1, ![256]⟩ .f32) :
    FVec Ideal ⟨2, ![M, 256]⟩ .f32 :=
  fun j => (∑ k : Fin 256, x (ix2 (j 0 : Fin M) k) * W (ix2 k (j 1 : Fin 256))) + b (ix1 (j 1 : Fin 256))

/-- Row `r` of `x · W + b` reads row `r` of `x` alone: where a row of one matrix is a row of another, the two products
    agree there, column by column. -/
theorem affine_row {M N : ℕ} {x : FVec Ideal ⟨2, ![M, 256]⟩ .f32} {y : FVec Ideal ⟨2, ![N, 256]⟩ .f32}
    (W : FVec Ideal ⟨2, ![256, 256]⟩ .f32) (b : FVec Ideal ⟨1, ![256]⟩ .f32)
    (i : (⟨2, ![M, 256]⟩ : Shape).Idx) (j : (⟨2, ![N, 256]⟩ : Shape).Idx)
    (hrow : ∀ k : Fin 256, x (ix2 (i 0 : Fin M) k) = y (ix2 (j 0 : Fin N) k)) (hcol : (i 1 : Fin 256) = (j 1 : Fin 256)) :
    affine x W b i = affine y W b j := by
  unfold affine
  rw [hcol]
  exact congrArg (· + b (ix1 (j 1 : Fin 256))) (Finset.sum_congr rfl fun k _ => by rw [hrow k])

/-- What the kernel function stores, from a block `x`, the matrix and the bias it loads, is `x · W + b`. -/
theorem stored_eq (x : FVec Ideal ⟨2, ![13824, 256]⟩ .f32) (W : FVec Ideal ⟨2, ![256, 256]⟩ .f32) (b : FVec Ideal ⟨1, ![256]⟩ .f32) :
    Cert.KernelIdeal.Gen.k0_pay1 (F := Ideal) x W b = affine x W b := by
  funext j
  obtain ⟨r, c, rfl⟩ : ∃ (r : Fin 13824) (c : Fin 256), j = ix2 r c := ⟨j 0, j 1, eq_ix2 j⟩
  have hprod : matmul (F := Ideal) (DotDims.plain 13824 256 256) none x W (constant ⟨2, ![13824, 256]⟩ .f32 0x00000000#32) (ix2 r c)
      = ∑ k : Fin 256, x (ix2 r k) * W (ix2 k c) := by
    rw [matmul_zero_eq_dotGeneral, StackMember.dotGeneral_plain_apply]
  have hbias : broadcastTo ⟨2, ![13824, 256]⟩ (shapeCast ⟨2, ![1, 256]⟩ b Cert.KernelIdeal.Gen.shapeCasts_S256_S1x256)
      Cert.KernelIdeal.Gen.broadcasts_S1x256_S13824x256 (ix2 r c) = b (ix1 c) := by
    rw [broadcastTo_row_eq_broadcastInDim b _ _ (by decide)]
    exact broadcastInDim_apply ![1] _ b (ix2 r c) (ix1 c) fun a => by
      match a with
      | ⟨0, _⟩ => rfl
  exact congrArg₂ (· + ·) hprod hbias

/-- What the reference computes is `x · W + b` over all the rows. -/
theorem reference_eq (x : FVec Ideal ⟨2, ![50000, 256]⟩ .f32) (W : FVec Ideal ⟨2, ![256, 256]⟩ .f32) (b : FVec Ideal ⟨1, ![256]⟩ .f32) :
    addf (Host.dotGeneral Cert.ReferenceIdeal.dot_S50000x256_S256x256_S50000x256_1_0_0_1_n_n none x W)
        (broadcastInDim Cert.ReferenceIdeal.S50000x256 ![0, 1] Cert.ReferenceIdeal.Gen.bcast_S1x256_S50000x256_0_1
          (broadcastInDim Cert.ReferenceIdeal.S1x256 ![1] Cert.ReferenceIdeal.Gen.bcast_S256_S1x256_1 b))
      = affine x W b := by
  funext j
  obtain ⟨r, c, rfl⟩ : ∃ (r : Fin 50000) (c : Fin 256), j = ix2 r c := ⟨j 0, j 1, eq_ix2 j⟩
  have hprod := StackMember.dotGeneral_plain_apply (m := 50000) (n := 256) none x W r c
  have hbias := (broadcastInDim_oneRow_apply Cert.ReferenceIdeal.Gen.bcast_S1x256_S50000x256_0_1
      (broadcastInDim Cert.ReferenceIdeal.S1x256 ![1] Cert.ReferenceIdeal.Gen.bcast_S256_S1x256_1 b) r c).trans
    (broadcastInDim_apply ![1] Cert.ReferenceIdeal.Gen.bcast_S256_S1x256_1 b (ix2 (0 : Fin 1) c) (ix1 c) fun a => by
      match a with
      | ⟨0, _⟩ => rfl)
  exact congrArg₂ (· + ·) hprod hbias

end Cert.Affine

end
-- ==== Proof.KernelFrame.lean ====
/- The word-level program: its one pallas_call runs to the end from any memory, leaves the four argument arrays as it
   found them, and every semaphore counter ends at zero.

   Nothing is said here of the result array. The last row block overhangs the arrays, so the staging buffer of `x` holds,
   below the rows that exist, words that nothing names; a matrix product of machine words is not known to keep the rows
   apart, so what is stored is left unnamed as well. -/
module

public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Defs

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligationLoose)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- One run of the kernel function on any four whole staging buffers: the buffers of `x`, `W` and the bias come back
    holding what they held, the result's buffer comes back holding something. -/
theorem body_keeps (c : Dev nD) (i : grid0.Coords)
    (mx : Memref sig .tc .vmem S13824x256 .f32) (hx : mx.IsWhole) (mw : Memref sig .tc .vmem S256x256 .f32) (hw : mw.IsWhole)
    (mb : Memref sig .tc .vmem S256 .f32) (hb : mb.IsWhole) (mo : Memref sig .tc .vmem S13824x256 .f32) (ho : mo.IsWhole)
    (X : S13824x256.Idx → Elt F .f32) (W : S256x256.Idx → Elt F .f32) (B : S256.Idx → Elt F .f32) (K : PUnit → sProp 𝕄) :
    iprop(owns (c : Thread nD τ) mx fullShare X ∗ owns (c : Thread nD τ) mw fullShare W ∗ owns (c : Thread nD τ) mb fullShare B
        ∗ (∃ d, owns (c : Thread nD τ) mo fullShare d)
        ∗ (iprop(owns (c : Thread nD τ) mx fullShare X ∗ owns (c : Thread nD τ) mw fullShare W
              ∗ owns (c : Thread nD τ) mb fullShare B ∗ (∃ d, owns (c : Thread nD τ) mo fullShare d)) -∗ K ⟨⟩))
      ⊢ wp frame (wpE (defs₀ (F := F)) Variants.none c none) Set.univ (cc0__linear_block i mx hx mw hw mb hb mo ho) K := by
  simp only [cc0__linear_block_eq_skeleton]; unfold cc0__linear_block_skel
  unfold owns
  iintro ⟨⟨%fx, %ex, Hx⟩, ⟨%fw, %ew, Hw⟩, ⟨%fb, %eb, Hb⟩, ⟨%d, %fo, -, Ho⟩, Hk⟩
  sl_exec
  sl_step
  iapply Hk
  isplitl [Hx]
  · iexists fx; isplitr; · ipureintro; exact ex
    iexact Hx
  isplitl [Hw]
  · iexists fw; isplitr; · ipureintro; exact ew
    iexact Hw
  isplitl [Hb]
  · iexists fb; isplitr; · ipureintro; exact eb
    iexact Hb
  iexists _, _; isplitr; swap; · iexact Ho
  ipureintro; rfl

/-- The result's window is the one of which nothing is recorded. -/
def fgt : Fin 4 → Bool := ![false, false, false, true]

/-- The proof data on core `c`: each array as the region finds it; after the body at a point the buffer of `x` holds the
    rows of its block that lie inside the array (below them, a word nothing reads), those of `W` and the bias their
    blocks, and the result's something unnamed. -/
def dats (_ : Fin 1) (c : Dev nD) : Dat τ (Elt F) Unit ℕ (UR sig nD τ) ℕ cfg0 c where
  A w := V m c (Pipeline.arrRef spec0 w)
  after w t := match w with
    | ⟨0, _⟩ => win0_0.fill (grid0.coords t) (fun _ => Scalar.ofBits .f32 0#32) (iblk m c 0 t)
    | ⟨1, _⟩ => iblk m c 1 t
    | ⟨2, _⟩ => iblk m c 2 t
    | ⟨3, _⟩ => Pipeline.Dat.unnamed (cfg := cfg0) 3 t
  Φ _ := Pipeline.ΦA spec0 c
  q _ := fullShare
  owed _ := 0

/-- The buffer of `x` as the body finds it at a point: just fetched, so its block on the rows inside the array and
    anything (`d`) below. -/
theorem before_x (c : Dev nD) (t : Fin cfg0.N) (d) :
    (dats m 0 c).before 0 t d = win0_0.fill (grid0.coords t) d (iblk m c 0 t) := by
  unfold Dat.before; rw [if_pos (fetch0_0 t)]; rfl

/-- The library's obligation for the body at every point, the result's window unrecorded. -/
theorem body_obligation (c : Dev nD) :
    BodyObligationLoose (dats m 0 c) (defs₀ (F := F)) Variants.none () Set.univ fgt := fun t => by
  rw [bigSep_W0, bigSep_W0]
  simp only [fgt, Matrix.cons_val]
  rw [show (dats m 0 c).Φ t.succ = (dats m 0 c).Φ t.castSucc from rfl,
    show (dats m 0 c).owesAt () t.succ = (dats m 0 c).owesAt () t.castSucc from rfl]
  iintro ⟨HΦ, HO, ⟨%dx, Hx⟩, ⟨%dw, Hw⟩, ⟨%db, Hb⟩, Ho⟩
  rw [before_x m c t dx, before0_1_of m (dats m 0 c) rfl (fun _ => rfl) t dw, before0_2_of m (dats m 0 c) rfl (fun _ => rfl) t db]
  iapply (body_keeps (F := F) c (grid0.coords t) (st0_0 t) (hstage0_0 ((cfg0.slots t 0).cast nbuf0_0)) (st0_1 t)
    (hstage0_1 ((cfg0.slots t 1).cast nbuf0_1)) (st0_2 t) (hstage0_2 ((cfg0.slots t 2).cast nbuf0_2)) (st0_3 t)
    (hstage0_3 ((cfg0.slots t 3).cast nbuf0_3)) (win0_0.fill (grid0.coords t) dx (iblk m c 0 t)) (iblk m c 1 t) (iblk m c 2 t) _)
  isplitl [Hx]; · iexact Hx
  isplitl [Hw]; · iexact Hw
  isplitl [Hb]; · iexact Hb
  isplitl [Ho]; · iexact Ho
  iintro ⟨Hx, Hw, Hb, Ho⟩
  isplitl [HΦ]; · iexact HΦ
  isplitl [HO]; · iexact HO
  isplitl [Hx]
  · iexists dx
    have e : win0_0.cut (grid0.coords t) ((dats m 0 c).after 0 t) = iblk m c 0 t := win0_0.cut_fill _ _ _
    change _ ⊢ owns (c : Thread nD τ) (st0_0 t) fullShare
      (win0_0.fill (grid0.coords t) dx (win0_0.cut (grid0.coords t) ((dats m 0 c).after 0 t)))
    rw [e]; try iexact Hx
  isplitl [Hw]; · iexact Hw
  isplitl [Hb]; · iexact Hb
  iexact Ho

/-- What a run of `main` establishes of its final state: the argument arrays as launched and every counter at zero. -/
def Kept (r : PUnit × MemSt nD τ sig (Elt F)) : Prop :=
  (∀ c : Dev nD, r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3))
  ∧ r.2.sem = fun _ => 0

set_option backward.isDefEq.respectTransparency.types false in
/-- For any float values, from any memory with zero counters: every fair execution of `main` terminates without a fault,
    and in every final state the four argument arrays are as launched and every counter is zero. -/
theorem main_keeps : θ_run defs (onTc (τ := τ) (main (F := F))) (s₀ m ρ) (Kept m) :=
  Pipeline.θ_run_frame_forget cfgs (dats m) 0 launch0 defs₀ Variants.none fgt m ρ main
    (hbody := body_obligation m) (hshare := fun c => (dats m 0 c).share_full fun _ => rfl) (howed := fun _ _ => rfl)
    (V := V m) (hmain := hmain m Variants.none) (hA := fun _ _ => rfl) (hΦ := fun _ _ => rfl)
    (Q' := Kept m)
    (hQ' := fun _ h => ⟨fun c => ⟨h.1.arr_in c 0 rfl,
        (h.1 c).2 main_arg1 (Pipeline.mem_restRefs_of main_arg1 (by decide) (by decide)),
        h.1.arr_in c 1 rfl, h.1.arr_in c 2 rfl⟩, h.2⟩)

/-- The claim about the word-level program's frame. -/
theorem quiescent : Cert.quiescent_Kernel := fun m ρ _ => main_keeps (F := Bits) m ρ

end Cert.Kernel.Hand

end
-- ==== Proof.IdealRun.lean ====
/- The program read over the extended reals, run to the end: the result array holds `x · W + b` in every row, the argument
   arrays are as launched, and every semaphore counter is zero.

   The four row blocks are 13824 rows each and the last overhangs the 50000 rows. The staging buffer of `x` then holds,
   below the rows that exist, words nothing names, and so does the block the body stores. The proof data states the two
   buffers on the rows inside the arrays only; a row of the product reads the same row of `x`, so those rows are known. -/
module

public import proofs.«01_k».proof.Proof.Affine
public import proofs.«01_k».proof.Proof.Gen.KernelIdeal.Launch
public import proofs.«01_k».proof.Proof.Gen.KernelIdeal.Points
public import proofs.«01_k».proof.Proof.Gen.KernelIdeal.Frame
public import Idealize.ShloMosaic.Lib.Pipeline.ValueKit

@[expose] public section

noncomputable section

namespace Cert.KernelIdeal.Hand

open Cert.KernelIdeal Cert.KernelIdeal.Gen Cert.Affine
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligationLoose)

local notation "𝕄" => MT nD τ sig Unit (Elt Ideal) ℕ (UR sig nD τ) ℕ

variable (m : (ℓ : Loc nD τ sig) → Buf (Elt Ideal) ℓ) (ρ : Dev nD → PrngReg)

/-! ## The body -/

/-- One run of the kernel function on any four whole staging buffers: from blocks `X`, `W` and `B` in the first three it
    leaves `X · W + B` in the fourth, whatever that held, and the three as they were. -/
theorem body_stores (c : Dev nD) (i : grid0.Coords)
    (mx : Memref sig .tc .vmem S13824x256 .f32) (hx : mx.IsWhole) (mw : Memref sig .tc .vmem S256x256 .f32) (hw : mw.IsWhole)
    (mb : Memref sig .tc .vmem S256 .f32) (hb : mb.IsWhole) (mo : Memref sig .tc .vmem S13824x256 .f32) (ho : mo.IsWhole)
    (X D : S13824x256.Idx → Elt Ideal .f32) (W : S256x256.Idx → Elt Ideal .f32) (B : S256.Idx → Elt Ideal .f32) (K : PUnit → sProp 𝕄) :
    iprop(owns (c : Thread nD τ) mx fullShare X ∗ owns (c : Thread nD τ) mw fullShare W ∗ owns (c : Thread nD τ) mb fullShare B
        ∗ owns (c : Thread nD τ) mo fullShare D
        ∗ (iprop(owns (c : Thread nD τ) mx fullShare X ∗ owns (c : Thread nD τ) mw fullShare W
              ∗ owns (c : Thread nD τ) mb fullShare B ∗ owns (c : Thread nD τ) mo fullShare (affine (M := 13824) X W B)) -∗ K ⟨⟩))
      ⊢ wp frame (wpE (defs₀ (F := Ideal)) Variants.none c none) Set.univ (cc0__linear_block i mx hx mw hw mb hb mo ho) K := by
  have z2 : (![0, 0] : Fin 2 → Nat) = fun _ => 0 := by decide
  have z1 : (![0] : Fin 1 → Nat) = fun _ => 0 := by decide
  rw [← stored_eq]
  simp only [cc0__linear_block_eq_skeleton]; unfold cc0__linear_block_skel
  unfold owns
  iintro ⟨⟨%fx, %ex, Hx⟩, ⟨%fw, %ew, Hw⟩, ⟨%fb, %eb, Hb⟩, ⟨%fo, -, Ho⟩, Hk⟩
  sl_exec
  sl_step
  iapply Hk
  isplitl [Hx]
  · iexists fx; isplitr; · ipureintro; exact ex
    iexact Hx
  isplitl [Hw]
  · iexists fw; isplitr; · ipureintro; exact ew
    iexact Hw
  isplitl [Hb]
  · iexists fb; isplitr; · ipureintro; exact eb
    iexact Hb
  iexists _; isplitr; swap; · iexact Ho
  ipureintro
  rw [View.read_writes_eq_canon _ _ _ (fun y => ⟨_, List.mem_singleton_self _,
      View.mem_set_unit_zero z2 inb_S13824x256_S13824x256_0_0 y⟩), View.canon_unit_zero z2]
  rw [View.readAt_eq_ld, View.readAt_eq_ld, View.readAt_eq_ld, ex, ew, eb, View.ld_unit_zero z2, View.ld_unit_zero z2,
    View.ld_unit_zero z1]

/-! ## The proof data -/

/-- The result: `x · W + b` of the argument arrays as launched. -/
def result (c : Dev nD) : S50000x256.Idx → Elt Ideal .f32 :=
  affine (M := 50000) (m ((c.tc : Thread nD τ).loc main_arg0)) (m ((c.tc : Thread nD τ).loc main_arg2)) (m ((c.tc : Thread nD τ).loc main_arg3))

/-- The rows of the result that point `t`'s write-back covers. -/
def resultRows (c : Dev nD) (t : Fin cfg0.N) : (win0_3.xblock (grid0.coords t)).Idx → Elt Ideal .f32 :=
  (win0_3.blk t).view.read (Elt Ideal) (result m c)

/-- The block written below the arrays' ends where the proof must name one: zeros, which nothing reads. -/
def zeros : S13824x256.Idx → Elt Ideal .f32 := fun _ => (0 : EReal)

/-- The proof data on core `c`: each array as the region finds it; after the body at a point the buffers of `x` and of the
    result hold, on the rows inside the arrays, the block of `x` and the rows of the result (zero below, which nothing
    reads), those of `W` and the bias their blocks. -/
def dats (_ : Fin 1) (c : Dev nD) : Dat τ (Elt Ideal) Unit ℕ (UR sig nD τ) ℕ cfg0 c where
  A w := V m c (Pipeline.arrRef spec0 w)
  after w t := match w with
    | ⟨0, _⟩ => win0_0.fill (grid0.coords t) zeros (iblk m c 0 t)
    | ⟨1, _⟩ => iblk m c 1 t
    | ⟨2, _⟩ => iblk m c 2 t
    | ⟨3, _⟩ => win0_3.fill (grid0.coords t) zeros (resultRows m c t)
  Φ _ := Pipeline.ΦA spec0 c
  q _ := fullShare
  owed _ := 0

/-- The buffer of `x` as the body finds it at a point: just fetched, so its block on the rows inside the array and
    anything (`d`) below. -/
theorem before_x (c : Dev nD) (t : Fin cfg0.N) (d) :
    (dats m 0 c).before 0 t d = win0_0.fill (grid0.coords t) d (iblk m c 0 t) := by
  unfold Dat.before; rw [if_pos (fetch0_0 t)]; rfl

/-! ## The stored block on the rows inside the array -/

/-- The windows of `x` and of the result place point `t`'s block at row 13824 · t, column 0, and move all 256 columns of
    it; the windows of `W` and of the bias always place theirs at the array's start. -/
theorem place_x : ∀ t : Fin cfg0.N, win0_0.index t = ![(grid0.coords t 0).val, 0] :=
  (by decide +kernel : ∀ t : Fin grid0.N, _)
theorem place_out : ∀ t : Fin cfg0.N, win0_3.index t = ![(grid0.coords t 0).val, 0] :=
  (by decide +kernel : ∀ t : Fin grid0.N, _)
theorem columns_x : ∀ t : Fin cfg0.N, win0_0.xsize (grid0.coords t) 1 = 256 :=
  (by decide +kernel : ∀ t : Fin grid0.N, _)
theorem place_W : ∀ t : Fin cfg0.N, win0_1.index t = ![0, 0] :=
  (by decide +kernel : ∀ t : Fin grid0.N, _)
theorem place_b : ∀ t : Fin cfg0.N, win0_2.index t = ![0] :=
  (by decide +kernel : ∀ t : Fin grid0.N, _)

/-- Element (r, c) of point `t`'s block of the result is the array's element (13824 · t + r, c). -/
theorem out_at (t : Fin cfg0.N) (y : (win0_3.xblock (grid0.coords t)).Idx) :
    ((win0_3.rect t).emb y 0 : ℕ) = (grid0.coords t 0).val * 13824 + (y 0 : ℕ) ∧ ((win0_3.rect t).emb y 1 : ℕ) = (y 1 : ℕ) := by
  have h := fun a => win0_3.rect_emb_val t y a
  rw [place_out] at h
  exact ⟨h 0, (h 1).trans ((congrArg (· + (y 1 : ℕ)) (Nat.zero_mul 256)).trans (Nat.zero_add _))⟩

/-- The block of `W` is `W`, at every point. -/
theorem block_W (c : Dev nD) (t : Fin cfg0.N) : iblk m c 1 t = m ((c.tc : Thread nD τ).loc main_arg2) := by
  funext y
  show V m c main_arg2 ((win0_1.blk t).view.emb y) = V m c main_arg2 y
  refine congrArg _ ?_
  blk_ext [place_W]

/-- The block of the bias is the bias, at every point. -/
theorem block_b (c : Dev nD) (t : Fin cfg0.N) : iblk m c 2 t = m ((c.tc : Thread nD τ).loc main_arg3) := by
  funext y
  show V m c main_arg3 ((win0_2.blk t).view.emb y) = V m c main_arg3 y
  refine congrArg _ ?_
  blk_ext [place_b]

/-- Whatever the buffer of `x` holds below the array's end, the stored block is, on the rows inside the array, the rows
    of the result. -/
theorem stored_rows (c : Dev nD) (t : Fin cfg0.N) (d : S13824x256.Idx → Elt Ideal .f32) :
    win0_3.cut (grid0.coords t)
        (affine (M := 13824) (win0_0.fill (grid0.coords t) d (iblk m c 0 t)) (iblk m c 1 t) (iblk m c 2 t))
      = resultRows m c t := by
  rw [block_W, block_b]
  funext y
  show affine (M := 13824) _ _ _ (win0_3.xinj (grid0.coords t) y) = result m c ((win0_3.blk t).view.emb y)
  refine affine_row _ _ _ _ (fun k => ?_) ?_
  · have hm : win0_0.moved (grid0.coords t) (ValueIdx.ix2 (win0_3.xinj (grid0.coords t) y 0) k) = true :=
      (win0_0.moved_iff _ _).mpr fun a => match a with
        | ⟨0, _⟩ => (y 0).isLt
        | ⟨1, _⟩ => (columns_x t).symm ▸ k.isLt
    unfold Pipeline.Window.fill
    rw [dif_pos hm]
    show V m c main_arg0 ((win0_0.blk t).view.emb _) = V m c main_arg0 _
    refine congrArg _ ?_
    blk_ext [place_x]
    exact (out_at t y).1.symm
  · exact Fin.ext (out_at t y).2.symm

/-- The library's obligation for the body at every point. -/
theorem body_obligation (c : Dev nD) :
    BodyObligationLoose (dats m 0 c) (defs₀ (F := Ideal)) Variants.none () Set.univ := fun t => by
  rw [bigSep_W0, bigSep_W0]
  simp only
  rw [show (dats m 0 c).Φ t.succ = (dats m 0 c).Φ t.castSucc from rfl,
    show (dats m 0 c).owesAt () t.succ = (dats m 0 c).owesAt () t.castSucc from rfl]
  iintro ⟨HΦ, HO, ⟨%dx, Hx⟩, ⟨%dw, Hw⟩, ⟨%db, Hb⟩, ⟨%dout, Ho⟩⟩
  rw [before_x m c t dx, before0_1_of m (dats m 0 c) rfl (fun _ => rfl) t dw, before0_2_of m (dats m 0 c) rfl (fun _ => rfl) t db]
  iapply (body_stores c (grid0.coords t) (st0_0 t) (hstage0_0 ((cfg0.slots t 0).cast nbuf0_0)) (st0_1 t)
    (hstage0_1 ((cfg0.slots t 1).cast nbuf0_1)) (st0_2 t) (hstage0_2 ((cfg0.slots t 2).cast nbuf0_2)) (st0_3 t)
    (hstage0_3 ((cfg0.slots t 3).cast nbuf0_3)) (win0_0.fill (grid0.coords t) dx (iblk m c 0 t)) _ (iblk m c 1 t) (iblk m c 2 t) _)
  isplitl [Hx]; · iexact Hx
  isplitl [Hw]; · iexact Hw
  isplitl [Hb]; · iexact Hb
  isplitl [Ho]; · iexact Ho
  iintro ⟨Hx, Hw, Hb, Ho⟩
  isplitl [HΦ]; · iexact HΦ
  isplitl [HO]; · iexact HO
  isplitl [Hx]
  · iexists dx
    have e : win0_0.cut (grid0.coords t) ((dats m 0 c).after 0 t) = iblk m c 0 t := win0_0.cut_fill _ _ _
    change _ ⊢ owns (c : Thread nD τ) (st0_0 t) fullShare
      (win0_0.fill (grid0.coords t) dx (win0_0.cut (grid0.coords t) ((dats m 0 c).after 0 t)))
    rw [e]; try iexact Hx
  isplitl [Hw]; · iexact Hw
  isplitl [Hb]; · iexact Hb
  iexists affine (M := 13824) (win0_0.fill (grid0.coords t) dx (iblk m c 0 t)) (iblk m c 1 t) (iblk m c 2 t)
  have e : win0_3.cut (grid0.coords t) (affine (M := 13824) (win0_0.fill (grid0.coords t) dx (iblk m c 0 t)) (iblk m c 1 t) (iblk m c 2 t))
      = win0_3.cut (grid0.coords t) ((dats m 0 c).after 3 t) := (stored_rows m c t dx).trans (win0_3.cut_fill _ _ _).symm
  change _ ⊢ owns (c : Thread nD τ) (st0_3 t) fullShare (win0_3.fill (grid0.coords t)
    (affine (M := 13824) (win0_0.fill (grid0.coords t) dx (iblk m c 0 t)) (iblk m c 1 t) (iblk m c 2 t))
    (win0_3.cut (grid0.coords t) ((dats m 0 c).after 3 t)))
  rw [win0_3.fill_congr_cut _ e]; try iexact Ho

/-! ## The run -/

/-- The result's array after the run: the four blocks cover the 50000 rows, and each write-back is of rows of the result. -/
theorem final_result (c : Dev nD) : (dats m 0 c).arrAt 3 cfg0.N = result m c :=
  (dats m 0 c).arrAt_eq_of_cover 3 (result m c) (fun _ _ => win0_3.cut_fill _ _ _)
    ((by decide +kernel : (cfg0.win 3).Covers).cover _ (Memref.isWhole_whole _))

/-- What a run of `main` establishes of its final state. -/
def Done (r : PUnit × MemSt nD τ sig (Elt Ideal)) : Prop :=
  (∀ c : Dev nD, r.2.mem ((c.tc : Thread nD τ).loc main_v0) = result m c
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3))
  ∧ r.2.sem = fun _ => 0

set_option backward.isDefEq.respectTransparency.types false in
/-- From any memory with zero counters: every fair execution of `main` terminates without a fault, and in every final state
    the result array holds `x · W + b`, the argument arrays are as launched, and every counter is zero. -/
theorem main_computes : θ_run defs (onTc (τ := τ) (main (F := Ideal))) (s₀ m ρ) (Done m) :=
  Pipeline.θ_run_frame cfgs (dats m) 0 launch0 defs₀ Variants.none m ρ main
    (hbody := body_obligation m) (hshare := fun c => (dats m 0 c).share_full fun _ => rfl) (howed := fun _ _ => rfl)
    (V := V m) (hmain := hmain m Variants.none) (hA := fun _ _ => rfl) (hΦ := fun _ _ => rfl)
    (Q' := Done m)
    (hQ' := fun _ h => ⟨fun c => ⟨(h.1.out_eq c 3).trans (final_result m c), h.1.in_eq c 0 rfl,
        h.1.rest_eq c main_arg1 (Pipeline.mem_restRefs_of main_arg1 (by decide) (by decide)),
        h.1.in_eq c 1 rfl, h.1.in_eq c 2 rfl⟩, h.2⟩)

end Cert.KernelIdeal.Hand

end
-- ==== Proof.lean ====
module

public import proofs.«01_k».proof.Proof.Gen.ReferenceIdeal.Run
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Affine
public import proofs.«01_k».proof.Proof.KernelFrame
public import proofs.«01_k».proof.Proof.IdealRun
public import Idealize.ShloMosaic.Adequacy
public import Idealize.ShloMosaic.Init

@[expose] public section

noncomputable section

namespace Cert.Proof

open Idealize.ShloMosaic Idealize.SL.Sem Cert.Kernel

/-- The program over the extended reals runs, keeps its arguments and ends with every counter at zero. -/
theorem frame_ideal : Cert.quiescent_KernelIdeal := fun m g _ =>
  (θ_run Cert.KernelIdeal.defs _ _).mono (fun _ h => ⟨fun c => (h.1 c).2, h.2⟩) (Cert.KernelIdeal.Hand.main_computes m g)

/-- The reference runs and keeps its arguments; it has no semaphore, so every counter is zero. -/
theorem frame_reference : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

/-- Over the extended reals the kernel and the reference end with the same result, `x · W + b`, in every element. -/
theorem kernel_computes_reference : Cert.algebraic_KernelIdeal_ReferenceIdeal := fun m g m' g' _ same =>
  ⟨Cert.KernelIdeal.Hand.result m,
    (θ_run Cert.KernelIdeal.defs _ _).mono (fun _ h => h.1) (Cert.KernelIdeal.Hand.main_computes m g),
    (θ_run Cert.ReferenceIdeal.defs _ _).mono
      (fun _ h c => ⟨(h c).1.trans ((Cert.Affine.reference_eq _ _ _).trans (by
        rw [(same c).1, (same c).2.2.1, (same c).2.2.2]; rfl)), (h c).2⟩)
      (Cert.ReferenceIdeal.Value.run (F := Ideal) m' g')⟩

/-- Everything the certificate claims. -/
theorem claim : Cert.Claim := ⟨Cert.Kernel.Gen.facts, Cert.KernelIdeal.Gen.facts, Cert.ReferenceIdeal.Gen.facts,
  Cert.Kernel.Hand.quiescent, frame_ideal, frame_reference, trivial, kernel_computes_reference⟩

end Cert.Proof

end
